-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "half_over_temperature" .f32 0x40A00000#32 ((67108864 / 13421773 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048 : Shape := ⟨2, ![8, 2048]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048 .f32) (main_arg1 : FVec F S8x2048 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S8x2048 : Shape := ⟨2, ![8, 2048]⟩
abbrev S8x1x2048 : Shape := ⟨3, ![8, 1, 2048]⟩
abbrev S1x1 : Shape := ⟨2, ![1, 1]⟩
abbrev S1x1x2048 : Shape := ⟨3, ![1, 1, 2048]⟩
abbrev S1 : Shape := ⟨1, ![1]⟩
abbrev S1x2048 : Shape := ⟨2, ![1, 2048]⟩
abbrev S2048 : Shape := ⟨1, ![2048]⟩
abbrev S256 : Shape := ⟨1, ![256]⟩
abbrev S256x1 : Shape := ⟨2, ![256, 1]⟩
abbrev S256x2048 : Shape := ⟨2, ![256, 2048]⟩
abbrev S1x256 : Shape := ⟨2, ![1, 256]⟩
abbrev S2048x256 : Shape := ⟨2, ![2048, 256]⟩
abbrev S1x1792 : Shape := ⟨2, ![1, 1792]⟩
abbrev S1792 : Shape := ⟨1, ![1792]⟩
abbrev S256x1792 : Shape := ⟨2, ![256, 1792]⟩
abbrev S1792x256 : Shape := ⟨2, ![1792, 256]⟩
abbrev S1x1536 : Shape := ⟨2, ![1, 1536]⟩
abbrev S1536 : Shape := ⟨1, ![1536]⟩
abbrev S256x1536 : Shape := ⟨2, ![256, 1536]⟩
abbrev S1536x256 : Shape := ⟨2, ![1536, 256]⟩
abbrev S1x1280 : Shape := ⟨2, ![1, 1280]⟩
abbrev S1280 : Shape := ⟨1, ![1280]⟩
abbrev S256x1280 : Shape := ⟨2, ![256, 1280]⟩
abbrev S1280x256 : Shape := ⟨2, ![1280, 256]⟩
abbrev S1x1024 : Shape := ⟨2, ![1, 1024]⟩
abbrev S1024 : Shape := ⟨1, ![1024]⟩
abbrev S256x1024 : Shape := ⟨2, ![256, 1024]⟩
abbrev S1024x256 : Shape := ⟨2, ![1024, 256]⟩
abbrev S1x768 : Shape := ⟨2, ![1, 768]⟩
abbrev S768 : Shape := ⟨1, ![768]⟩
abbrev S256x768 : Shape := ⟨2, ![256, 768]⟩
abbrev S768x256 : Shape := ⟨2, ![768, 256]⟩
abbrev S1x512 : Shape := ⟨2, ![1, 512]⟩
abbrev S512 : Shape := ⟨1, ![512]⟩
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 6
  | .vmem => 6
  | .smem => 2
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x1x2048, .f32⟩
  | .hbm, ⟨3, _⟩ => ⟨S8x1x2048, .f32⟩
  | .hbm, ⟨4, _⟩ => ⟨S1x1, .f32⟩
  | .hbm, ⟨5, _⟩ => ⟨S_, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S1x2048, .f32⟩
  | .local _ .smem, ⟨0, _⟩ => ⟨S1x1, .f32⟩
  | .local _ .smem, ⟨1, _⟩ => ⟨S1, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v575 : BitVec 1 := Scalar.cmpi .eq arg0 c7_i32
  let v576 : BitVec 32 := Scalar.extui v575
  let c0_i32_192 : BitVec 32 := 0#32
  let v577 : BitVec 1 := Scalar.cmpi .ne v576 c0_i32_192
  v577

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "half_over_temperature" => some ((67108864 / 13421773 : ℝ) : EReal)
  | _ => none
-- ==== ReferenceIdeal.lean ====
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩
abbrev S8 : Shape := ⟨1, ![8]⟩
abbrev S8x1 : Shape := ⟨2, ![8, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048x1, .f32⟩
  | .hbm, ⟨3, _⟩ => ⟨S8x1x2048, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8, .f32⟩
  | .hbm, ⟨46, _⟩ => ⟨S8x1, .f32⟩
  | .hbm, ⟨47, _⟩ => ⟨S_, .f32⟩
  | .hbm, ⟨48, _⟩ => ⟨S8x1, .f32⟩
  | .hbm, ⟨49, _⟩ => ⟨S8x1, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S8, .f32⟩
  | .hbm, ⟨54, _⟩ => ⟨S8x1, .f32⟩
  | .hbm, ⟨55, _⟩ => ⟨S_, .f32⟩
  | .hbm, ⟨56, _⟩ => ⟨S8x1, .f32⟩
  | .hbm, ⟨57, _⟩ => ⟨S8x1, .f32⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S_, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8, .f32⟩
  | .hbm, ⟨70, _⟩ => ⟨S8x2048, .f32⟩
  | .hbm, ⟨71, _⟩ => ⟨S_, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S8x2048, .f32⟩
  | .hbm, ⟨81, _⟩ => ⟨S_, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S8, .f32⟩
  | .hbm, ⟨89, _⟩ => ⟨S8, .f32⟩
  | .hbm, ⟨90, _⟩ => ⟨S8, .f32⟩
  | .hbm, ⟨91, _⟩ => ⟨S_, .f32⟩
  | .hbm, ⟨92, _⟩ => ⟨S8, .f32⟩
  | .hbm, ⟨93, _⟩ => ⟨S8, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_16 : Ref sig .tc := ⟨.hbm, 71, rfl⟩
abbrev main_v52 : Ref sig .tc := ⟨.hbm, 72, rfl⟩
abbrev main_cst_17 : Ref sig .tc := ⟨.hbm, 73, rfl⟩
abbrev main_v53 : Ref sig .tc := ⟨.hbm, 74, rfl⟩
abbrev main_v54 : Ref sig .tc := ⟨.hbm, 75, rfl⟩
abbrev main_cst_18 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_19 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_21 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_22 : Ref sig .tc := ⟨.hbm, 91, rfl⟩
abbrev main_v66 : Ref sig .tc := ⟨.hbm, 92, rfl⟩
abbrev main_v67 : Ref sig .tc := ⟨.hbm, 93, rfl⟩
abbrev main_cst_23 : Ref sig .tc := ⟨.hbm, 94, rfl⟩
abbrev main_v68 : Ref sig .tc := ⟨.hbm, 95, rfl⟩
abbrev main_cst_24 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Proof.Finite.lean ====
/-
  The precondition: what it says of an argument's elements.
-/
module

public import proofs.«01_k».proof.Pre_finite
public import Idealize.ShloMosaic.Lib.Affine
public import Idealize.ShloMosaic.Lib.ReduceAll
public import Idealize.ShloMosaic.Lib.Pointwise

@[expose] public section

noncomputable section

namespace Cert.Pre_finite

open Idealize.ShloMosaic

/-- The precondition's shape relations hold at these shapes. -/
instance facts : Facts where
  bcast_S_S8x2048 := by decide
  reducesTo_S8x2048_S_d0_1 := by decide
  h_S_ := by decide

/-- Every element of an array is a real number. -/
def Real2 (x : FVec Ideal S8x2048 .f32) (g : ℕ → ℕ → ℝ) : Prop :=
  ∀ (r : Fin 8) (j : Fin 2048), (x (ix2 r j) : EReal) = ((g r j : ℝ) : EReal)

/-- A number whose absolute value is below infinity is neither infinity. -/
theorem real_of_lt {x : EReal} (h : Ideal.cmp .olt (max x (-x)) (Ideal.ofBits .f32 0x7F800000#32) = 1) : x ≠ ⊤ ∧ x ≠ ⊥ := by
  have top : Ideal.ofBits .f32 0x7F800000#32 = ⊤ := by simp [Ideal.ofBits, Ideal.ieee]
  rw [top, Ideal.cmp_olt_eq_one, max_lt_iff] at h
  refine ⟨h.1.ne, fun e => ?_⟩
  rw [e] at h
  exact absurd h.2 (by simp)

/-- An array whose test of every element comes out true is an array of reals. -/
theorem exists_real {x : FVec Ideal S8x2048 .f32} {i : S_.Idx}
    (h : Host.reduce IntOp.andi (cmpf .olt (Host.absf x) (broadcastInDim S8x2048 ![] facts.bcast_S_S8x2048 (constant S_ .f32 0x7F800000#32)))
      (constantI S_ 1 1#1) facts.reducesTo_S8x2048_S_d0_1 facts.h_S_ i = 1#1) : ∃ g, Real2 x g := by
  refine ⟨fun r j => if d : r < 8 ∧ j < 2048 then EReal.toReal (x (ix2 ⟨r, d.1⟩ ⟨j, d.2⟩)) else 0, fun r j => ?_⟩
  have n := real_of_lt (x := x (ix2 r j)) (Host.reduce_andi_all _ _ _ _ i h (ix2 r j))
  beta_reduce
  rw [dif_pos ⟨r.isLt, j.isLt⟩]
  exact (EReal.coe_toReal n.1 n.2).symm

/-- The precondition says that both arguments are arrays of reals. -/
theorem reals {x y : FVec Ideal S8x2048 .f32} (h : fn x y = fun _ => 1#1) : (∃ p, Real2 x p) ∧ ∃ t, Real2 y t := by
  have e := IntOp.andi_eq_one.1 (congrFun h (fun a => a.elim0))
  exact ⟨exists_real e.1, exists_real e.2⟩

end Cert.Pre_finite

end
-- ==== Proof.RealPart.lean ====
/- The mathematics of the certificate over the real numbers, and the readings of the two programs' extended-real
   expressions as real numbers. No program is named here.

   `pull α lo n j` is the sum of the tanh differences between score `j` and the `n` scores from `lo` on. Half of
   `pull α 0 2048 j` is the soft rank of score `j` less the mean rank: the sigmoid is `1/2 + 1/2 tanh(·/2)`, and the
   pulls of a row sum to zero because tanh is odd. -/
module

public import Idealize.ShloMosaic.PureOps.Ideal.Laws
public import Idealize.ShloMosaic.Lib.ValueIdxCore
public import Mathlib.Analysis.SpecialFunctions.Trigonometric.DerivHyp
public import Mathlib.Analysis.SpecialFunctions.Pow.Real

@[expose] public section

noncomputable section

namespace Cert.Soft

open Idealize.ShloMosaic
open scoped BigOperators

/-! ## Pulls and ranks -/

/-- The sum, over the `n` scores from position `lo` on, of the hyperbolic tangent of score `j` less that score. -/
def pull (α : ℕ → ℝ) (lo n j : ℕ) : ℝ := ∑ k ∈ Finset.range n, Real.tanh (α j - α (lo + k))

/-- The centred soft rank of score `j`: half its pull over the whole row. -/
def rank (α : ℕ → ℝ) (j : ℕ) : ℝ := 1 / 2 * pull α 0 2048 j

/-- The pull over a first stretch and the pull over the stretch after it make the pull over both. -/
theorem pull_append (α : ℕ → ℝ) (lo w j : ℕ) : pull α 0 lo j + pull α lo w j = pull α 0 (lo + w) j := by
  simp only [pull, zero_add, Finset.sum_range_add]

/-- The hyperbolic tangent is odd, so the pulls of the scores of a row add up to zero. -/
theorem sum_pull_eq_zero (α : ℕ → ℝ) (n : ℕ) : ∑ j ∈ Finset.range n, pull α 0 n j = 0 := by
  have h : ∑ j ∈ Finset.range n, pull α 0 n j = -∑ j ∈ Finset.range n, pull α 0 n j := by
    conv_rhs => rw [show (∑ j ∈ Finset.range n, pull α 0 n j)
      = ∑ j ∈ Finset.range n, ∑ k ∈ Finset.range n, Real.tanh (α j - α k) by simp only [pull, zero_add]]
    rw [Finset.sum_comm, ← Finset.sum_neg_distrib]
    refine Finset.sum_congr rfl fun j _ => ?_
    rw [pull, ← Finset.sum_neg_distrib]
    refine Finset.sum_congr rfl fun k _ => ?_
    rw [← Real.tanh_neg, neg_sub, zero_add]
  linarith

/-- The sigmoid in terms of the hyperbolic tangent of half its argument. -/
theorem sigmoid_eq (x : ℝ) : 1 / (1 + Real.exp (-x)) = 1 / 2 + 1 / 2 * Real.tanh (x / 2) := by
  rw [Real.tanh_eq_sinh_div_cosh, Real.sinh_eq, Real.cosh_eq]
  have e : Real.exp (-x) = Real.exp (-(x / 2)) * Real.exp (-(x / 2)) := by rw [← Real.exp_add]; ring_nf
  have e' : Real.exp (x / 2) * Real.exp (-(x / 2)) = 1 := by rw [← Real.exp_add]; simp
  have p := Real.exp_pos (x / 2)
  have q := Real.exp_pos (-(x / 2))
  rw [e]
  generalize Real.exp (x / 2) = u at *
  generalize Real.exp (-(x / 2)) = v at *
  field_simp
  nlinarith

/-! ## One row's loss -/

/-- The small number both programs add under the roots and to the denominator. -/
def eps : ℝ := 11258999 / 1125899906842624

/-- It is positive. -/
theorem eps_pos : 0 < eps := by unfold eps; norm_num

/-- The sum over the row of the products of two rows of ranks. -/
def cross (x y : ℕ → ℝ) (n : ℕ) : ℝ := ∑ j ∈ Finset.range n, x j * y j

/-- The root of the mean square of a row of ranks, with `eps` under the root. -/
def spread (x : ℕ → ℝ) : ℝ := Real.sqrt (cross x x 2048 / 2048 + eps)

/-- The correlation of two rows of centred ranks. -/
def rho (x y : ℕ → ℝ) : ℝ := cross x y 2048 / 2048 / (spread x * spread y + eps)

/-- The denominator of the correlation is positive. -/
theorem denom_pos (x y : ℕ → ℝ) : 0 < spread x * spread y + eps :=
  add_pos_of_nonneg_of_pos (mul_nonneg (Real.sqrt_nonneg _) (Real.sqrt_nonneg _)) eps_pos

/-- What is under a root is not negative. -/
theorem under_nonneg (x : ℕ → ℝ) : 0 ≤ cross x x 2048 / 2048 + eps :=
  add_nonneg (div_nonneg (Finset.sum_nonneg fun _ _ => mul_self_nonneg _) (by norm_num)) eps_pos.le

/-- The centred ranks of row `r` of an array: its entries divided by twice the temperature are its scores. -/
def ranks (p : ℕ → ℕ → ℝ) (r : ℕ) : ℕ → ℝ := rank fun j => 67108864 / 13421773 * p r j

/-- The sum over the first `n` rows of one minus the correlation, over the number of rows: at 8 rows the result. -/
def score (p t : ℕ → ℕ → ℝ) (n : ℕ) : ℝ := ∑ r ∈ Finset.range n, (1 - rho (ranks p r) (ranks t r)) / 8

/-! ## The constants of the programs -/

/-- The word of one half. -/
theorem word_half : Ideal.ofBits .f32 0x3F000000#32 = ((1 / 2 : ℝ) : EReal) := by
  simp [Ideal.ofBits, Ideal.ieee, -EReal.coe_mul]; norm_num
/-- The word of the row length. -/
theorem word_2048 : Ideal.ofBits .f32 0x45000000#32 = ((2048 : ℝ) : EReal) := by
  simp [Ideal.ofBits, Ideal.ieee, -EReal.coe_mul]; norm_num
/-- The word of the number of rows. -/
theorem word_8 : Ideal.ofBits .f32 0x41000000#32 = ((8 : ℝ) : EReal) := by
  simp [Ideal.ofBits, Ideal.ieee, -EReal.coe_mul]; norm_num
/-- The word of zero. -/
theorem word_zero : Ideal.ofBits .f32 0x00000000#32 = ((0 : ℝ) : EReal) := by
  simp [Ideal.ofBits, Ideal.ieee, -EReal.coe_mul]
/-- The word of one. -/
theorem word_one : Ideal.ofBits .f32 0x3F800000#32 = ((1 : ℝ) : EReal) := by
  simp [Ideal.ofBits, Ideal.ieee, -EReal.coe_mul]; norm_num
/-- The word of the small number. -/
theorem word_eps : Ideal.ofBits .f32 0x322BCC77#32 = ((eps : ℝ) : EReal) := by
  unfold eps; simp [Ideal.ofBits, Ideal.ieee, -EReal.coe_mul]; norm_num
/-- The word of the temperature: the f32 nearest one tenth. -/
theorem word_temperature : Ideal.ofBits .f32 0x3DCCCCCD#32 = ((13421773 / 134217728 : ℝ) : EReal) := by
  simp [Ideal.ofBits, Ideal.ieee, -EReal.coe_mul]; norm_num

/-! ## Extended reals that are real -/

/-- A quotient of reals by a nonzero real is the real quotient. -/
theorem div_real {y : ℝ} (h : y ≠ 0) (x : ℝ) : Ideal.div (x : EReal) (y : EReal) = ((x / y : ℝ) : EReal) := by
  rw [Ideal.div_coe h, ← EReal.coe_mul, mul_one_div]

/-- The root of a nonnegative real is the real root. -/
theorem sqrt_real {x : ℝ} (h : 0 ≤ x) : Ideal.sqrt (x : EReal) = ((Real.sqrt x : ℝ) : EReal) := by
  rw [Ideal.sqrt_coe, if_neg (not_lt.mpr h)]

/-- A finite sum of reals is the real sum. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row of the kernel's tanh block added to the pull of the earlier scores, halved, is a centred rank. -/
theorem half_row (α : ℕ → ℝ) (lo w j : ℕ) (h : lo + w = 2048) :
    ((1 / 2 : ℝ) : EReal) * (((pull α 0 lo j : ℝ) : EReal) + ∑ k : Fin w, Ideal.tanh ((α j : EReal) - (α (lo + k) : EReal)))
      = ((rank α j : ℝ) : EReal) := by
  simp only [← EReal.coe_sub, Ideal.tanh_coe]
  rw [sum_real, ← EReal.coe_add, ← EReal.coe_mul, rank, ← h, ← pull_append α lo w j]
  rw [pull.eq_1 α lo w, Finset.sum_range]

/-- A column of the kernel's tanh block subtracted from the pull of the earlier scores is the pull with the block's
    scores added, because tanh is odd. -/
theorem col_step (α : ℕ → ℝ) (lo w j : ℕ) :
    ((pull α 0 lo j : ℝ) : EReal) - ∑ i : Fin w, Ideal.tanh ((α (lo + i) : EReal) - (α j : EReal))
      = ((pull α 0 (lo + w) j : ℝ) : EReal) := by
  simp only [← EReal.coe_sub, Ideal.tanh_coe]
  rw [sum_real, ← EReal.coe_sub, ← pull_append α lo w j, pull.eq_1 α lo w, Finset.sum_range, sub_eq_add_neg,
    ← Finset.sum_neg_distrib]
  simp only [← Real.tanh_neg, neg_sub]

/-- The products of one block added to those of the blocks before it. -/
theorem cross_step (x y : ℕ → ℝ) (lo w : ℕ) :
    ((cross x y lo : ℝ) : EReal) + ∑ l : Fin w, ((x (lo + l) : ℝ) : EReal) * ((y (lo + l) : ℝ) : EReal)
      = ((cross x y (lo + w) : ℝ) : EReal) := by
  simp only [← EReal.coe_mul]
  rw [sum_real, ← EReal.coe_add, cross, cross, Finset.sum_range_add, Finset.sum_range (n := w)]

/-- The sum over no block at all. -/
theorem cross_zero (x y : ℕ → ℝ) : cross x y 0 = 0 := by simp [cross]

/-! ## The reference's soft rank -/

/-- One sigmoid of the reference, of a difference over the temperature. -/
theorem sigmoid_step (x y : ℝ) : Ideal.div ((1 : ℝ) : EReal) (((1 : ℝ) : EReal) + Ideal.exp (-Ideal.div ((x : EReal) - (y : EReal))
      ((13421773 / 134217728 : ℝ) : EReal)))
    = ((1 / 2 + 1 / 2 * Real.tanh (67108864 / 13421773 * x - 67108864 / 13421773 * y) : ℝ) : EReal) := by
  rw [← EReal.coe_sub, div_real (by norm_num), ← EReal.coe_neg, Ideal.exp_coe, ← EReal.coe_add,
    div_real (by positivity), sigmoid_eq]
  congr 4; ring

/-- The sum of a row's sigmoids and one half is the centred rank and the mean rank. -/
theorem soft_row (p : ℕ → ℕ → ℝ) (r j : ℕ) :
    (∑ k : Fin 2048, ((1 / 2 + 1 / 2 * Real.tanh (67108864 / 13421773 * p r j - 67108864 / 13421773 * p r k) : ℝ) : EReal))
      + ((1 / 2 : ℝ) : EReal) = ((ranks p r j + 2049 / 2 : ℝ) : EReal) := by
  rw [sum_real, ← EReal.coe_add, Finset.sum_add_distrib, ← Finset.mul_sum, ranks, rank, pull, Finset.sum_range]
  simp only [zero_add, Finset.sum_const, Finset.card_univ, Fintype.card_fin, nsmul_eq_mul]
  congr 1; push_cast; ring

/-- The mean of the ranks is the mean rank, so that a rank less the mean is the centred rank. -/
theorem centred_row (p : ℕ → ℕ → ℝ) (r j : ℕ) :
    ((ranks p r j + 2049 / 2 : ℝ) : EReal)
      - Ideal.div (∑ k : Fin 2048, ((ranks p r k + 2049 / 2 : ℝ) : EReal)) ((2048 : ℝ) : EReal) = ((ranks p r j : ℝ) : EReal) := by
  have z : ∑ k : Fin 2048, ranks p r k = 0 := by
    simp only [ranks, rank]
    rw [← Finset.mul_sum, ← Finset.sum_range (fun k => pull (fun j => 67108864 / 13421773 * p r j) 0 2048 k), sum_pull_eq_zero,
      mul_zero]
  rw [sum_real, div_real (by norm_num), ← EReal.coe_sub, Finset.sum_add_distrib, z]
  simp only [Finset.sum_const, Finset.card_univ, Fintype.card_fin, nsmul_eq_mul]
  congr 1; push_cast; ring

/-- The mean of the products of two rows. -/
theorem mean_row (x y : ℕ → ℝ) :
    Ideal.div (∑ k : Fin 2048, ((x k : ℝ) : EReal) * ((y k : ℝ) : EReal)) ((2048 : ℝ) : EReal)
      = ((cross x y 2048 / 2048 : ℝ) : EReal) := by
  simp only [← EReal.coe_mul]
  rw [sum_real, div_real (by norm_num), cross, Finset.sum_range]

/-- The root of a mean square with the small number under it. -/
theorem root_row (x : ℕ → ℝ) : Ideal.sqrt (((cross x x 2048 / 2048 : ℝ) : EReal) + ((eps : ℝ) : EReal)) = ((spread x : ℝ) : EReal) := by
  rw [← EReal.coe_add, sqrt_real (under_nonneg x), spread]

/-- One row's part of the reference's result. -/
theorem part_row (x y : ℕ → ℝ) : ((1 : ℝ) : EReal) - Ideal.div ((cross x y 2048 / 2048 : ℝ) : EReal)
      (((spread x : ℝ) : EReal) * ((spread y : ℝ) : EReal) + ((eps : ℝ) : EReal)) = ((1 - rho x y : ℝ) : EReal) := by
  rw [← EReal.coe_mul, ← EReal.coe_add, div_real (denom_pos x y).ne', ← EReal.coe_sub, rho]

/-- The reference's result. -/
theorem total_rows (p t : ℕ → ℕ → ℝ) :
    Ideal.div (∑ r : Fin 8, ((1 - rho (ranks p r) (ranks t r) : ℝ) : EReal)) ((8 : ℝ) : EReal) = ((score p t 8 : ℝ) : EReal) := by
  rw [sum_real, div_real (by norm_num), score, ← Finset.sum_div, Finset.sum_range]

end Cert.Soft

end
-- ==== Proof.Blocks.lean ====
/-
  One block of the kernel at a time: what its rank row and its update of the pulls are, over scores that are real.
-/
module

public import proofs.«01_k».proof.Proof.Gen.KernelIdeal.Skeleton
public import proofs.«01_k».proof.Proof.RealPart
public import Idealize.ShloMosaic.Lib.Pipeline.ValueKit
public import Idealize.ShloMosaic.Lib.Pointwise

@[expose] public section

set_option maxRecDepth 16384

noncomputable section

namespace Cert.KernelIdeal.Val

open Idealize.ShloMosaic Cert.KernelIdeal.Gen Cert.Soft
open scoped BigOperators

/-- The vector holds the scores `α`. -/
def Scores (a : FVec Ideal S2048 .bf16) (α : ℕ → ℝ) : Prop :=
  ∀ j : Fin 2048, (a (ix1 j) : EReal) = ((α j : ℝ) : EReal)

/-- The row holds, at place `i`, the real `g (o + i)`. -/
def Row {w : ℕ} (v : FVec Ideal ⟨2, ![1, w]⟩ .f32) (g : ℕ → ℝ) (o : ℕ) : Prop :=
  ∀ i : Fin w, (v (ix2 (0 : Fin 1) i) : EReal) = ((g (o + i) : ℝ) : EReal)

/-- The vector holds, at place `i`, the real `g (o + i)`. -/
def Line (v : FVec Ideal S256 .f32) (g : ℕ → ℝ) (o : ℕ) : Prop :=
  ∀ i : Fin 256, (v (ix1 i) : EReal) = ((g (o + i) : ℝ) : EReal)

/-- What a block's rank row is, from what its entries are. -/
theorem line_of {x : FVec Ideal S256 .f32} {v : FVec Ideal S1x256 .f32} {a : FVec Ideal S2048 .bf16} {α : ℕ → ℝ}
    (lo w : ℕ) (h : lo + w = 2048) (ha : Scores a α) (hv : Row v (pull α 0 lo) lo)
    (e : ∀ i : Fin 256, ∃ (p : Fin 2048) (q : Fin w → Fin 2048), (p : ℕ) = lo + i ∧ (∀ k, (q k : ℕ) = lo + k) ∧
      (x (ix1 i) : EReal) = Ideal.ofBits .f32 0x3F000000#32 * (v (ix2 (0 : Fin 1) i) +
        ∑ k : Fin w, Ideal.tanh (a (ix1 p) - a (ix1 (q k))))) :
    Line x (rank α) lo := by
  intro i
  obtain ⟨p, q, hp, hq, e⟩ := e i
  rw [e, hv i, word_half]
  simp only [ha p, fun k => ha (q k), hp, hq]
  exact half_row α lo w (lo + i) h

/-- What a block's update of the pulls after it is, from what its entries are. -/
theorem row_of {n : ℕ} {x v : FVec Ideal ⟨2, ![1, n]⟩ .f32} {a : FVec Ideal S2048 .bf16} {α : ℕ → ℝ}
    (lo : ℕ) (ha : Scores a α) (hv : Row v (pull α 0 lo) (lo + 256))
    (e : ∀ y : Fin n, ∃ (p : Fin 2048) (q : Fin 256 → Fin 2048), (p : ℕ) = lo + 256 + y ∧ (∀ k, (q k : ℕ) = lo + k) ∧
      (x (ix2 (0 : Fin 1) y) : EReal) = v (ix2 (0 : Fin 1) y) -
        ∑ k : Fin 256, Ideal.tanh (a (ix1 (q k)) - a (ix1 p))) :
    Row x (pull α 0 (lo + 256)) (lo + 256) := by
  intro y
  obtain ⟨p, q, hp, hq, e⟩ := e y
  rw [e, hv y]
  simp only [ha p, fun k => ha (q k), hp, hq]
  exact col_step α lo 256 (lo + 256 + y)

variable {α : ℕ → ℝ} {a : FVec Ideal S2048 .bf16}

/-! ## The rank rows -/

/-- The ranks of block 0. -/
theorem line0 {P : Vec Ideal S1x1x2048 .f32} (ha : Scores (k0_pay4 P) α) {v : FVec Ideal S1x256 .f32}
    (hv : Row v (pull α 0 0) 0) : Line (k0_pay11 k0_pay8 (k0_pay10 P) v) (rank α) 0 :=
  line_of 0 2048 rfl ha hv fun i => ⟨⟨i, by omega⟩, fun k => k, (Nat.zero_add _).symm, fun k => (Nat.zero_add _).symm, by
    generalize hg : k0_pay4 P = g
    pointwise [k0_pay11, k0_pay8, k0_pay10, k0_pay6, hg]⟩

/-- The ranks of block 1. -/
theorem line1 (ha : Scores a α) {v : FVec Ideal S1x256 .f32} (hv : Row v (pull α 0 256) 256) :
    Line (k0_pay26 a v) (rank α) 256 :=
  line_of 256 1792 rfl ha hv fun i => ⟨⟨256 + i, by omega⟩, fun k => ⟨256 + k, by omega⟩, rfl, fun _ => rfl, by
    pointwise [k0_pay26, k0_pay21, k0_pay19]⟩

/-- The update of block 0. -/
theorem row0 {P : Vec Ideal S1x1x2048 .f32} (ha : Scores (k0_pay4 P) α) {v : FVec Ideal S1x1792 .f32}
    (hv : Row v (pull α 0 0) 256) : Row (k0_pay13 (k0_pay6 P) k0_pay9 v) (pull α 0 256) 256 :=
  row_of (n := 1792) 0 ha hv fun y => ⟨⟨256 + y, by omega⟩, fun k => ⟨k, by omega⟩, rfl,
    fun _ => (Nat.zero_add _).symm, by
    generalize hg : k0_pay4 P = g
    pointwise [k0_pay13, k0_pay9, k0_pay6, hg]⟩

/-- The update of block 1. -/
theorem row1 (ha : Scores a α) {v : FVec Ideal S1x1536 .f32} (hv : Row v (pull α 0 256) 512) :
    Row (k0_pay29 (k0_pay24 a) v) (pull α 0 512) 512 :=
  row_of (n := 1536) 256 ha hv fun y => ⟨⟨256 + (256 + y), by omega⟩, fun k => ⟨256 + k, by omega⟩, by simp only []; omega, fun _ => rfl, by
    pointwise [k0_pay29, k0_pay24, k0_pay22, k0_pay19]⟩

/-- The update of block 2. -/
theorem row2 (ha : Scores a α) {v : FVec Ideal S1x1280 .f32} (hv : Row v (pull α 0 512) 768) :
    Row (k0_pay44 (k0_pay34 a) (k0_pay35 a) v) (pull α 0 768) 768 :=
  row_of (n := 1280) 512 ha hv fun y => ⟨⟨512 + (256 + y), by omega⟩, fun k => ⟨512 + k, by omega⟩, by simp only []; omega, fun _ => rfl, by
    pointwise [k0_pay44, k0_pay34, k0_pay35, k0_pay38, k0_pay41]⟩

/-- The update of block 3. -/
theorem row3 (ha : Scores a α) {v : FVec Ideal S1x1024 .f32} (hv : Row v (pull α 0 768) 1024) :
    Row (k0_pay60 (k0_pay56 a) v) (pull α 0 1024) 1024 :=
  row_of (n := 1024) 768 ha hv fun y => ⟨⟨768 + (256 + y), by omega⟩, fun k => ⟨768 + k, by omega⟩, by simp only []; omega, fun _ => rfl, by
    pointwise [k0_pay60, k0_pay56, k0_pay50, k0_pay53]⟩

/-- The update of block 4. -/
theorem row4 (ha : Scores a α) {v : FVec Ideal S1x768 .f32} (hv : Row v (pull α 0 1024) 1280) :
    Row (k0_pay74 (k0_pay73 a v)) (pull α 0 1280) 1280 :=
  row_of (n := 768) 1024 ha hv fun y => ⟨⟨1024 + (256 + y), by omega⟩, fun k => ⟨1024 + k, by omega⟩, by simp only []; omega, fun _ => rfl, by
    pointwise [k0_pay74, k0_pay73, k0_pay66, k0_pay69]⟩

/-- The update of block 5. -/
theorem row5 (ha : Scores a α) {v : FVec Ideal S1x512 .f32} (hv : Row v (pull α 0 1280) 1536) :
    Row (k0_pay86 (k0_pay79 a) k0_pay82 v) (pull α 0 1536) 1536 :=
  row_of (n := 512) 1280 ha hv fun y => ⟨⟨1280 + (256 + y), by omega⟩, fun k => ⟨1280 + k, by omega⟩, by simp only []; omega, fun _ => rfl, by
    pointwise [k0_pay86, k0_pay79, k0_pay82]⟩

/-- The update of block 6. -/
theorem row6 (ha : Scores a α) {v : FVec Ideal S1x256 .f32} (hv : Row v (pull α 0 1536) 1792) :
    Row (k0_pay100 (k0_pay96 a) v) (pull α 0 1792) 1792 :=
  row_of (n := 256) 1536 ha hv fun y => ⟨⟨1536 + (256 + y), by omega⟩, fun k => ⟨1536 + k, by omega⟩, by simp only []; omega, fun _ => rfl, by
    pointwise [k0_pay100, k0_pay96, k0_pay92, k0_pay95]⟩

/-- The ranks of block 2. -/
theorem line2 (ha : Scores a α) {v : FVec Ideal S1x256 .f32} (hv : Row v (pull α 0 512) 512) :
    Line (k0_pay42 (k0_pay34 a) (k0_pay35 a) v) (rank α) 512 :=
  line_of 512 1536 rfl ha hv fun i => ⟨⟨512 + i, by omega⟩, fun k => ⟨512 + k, by omega⟩, rfl, fun _ => rfl, by
    pointwise [k0_pay42, k0_pay34, k0_pay35, k0_pay38, k0_pay40]⟩

/-- The ranks of block 3. -/
theorem line3 (ha : Scores a α) {v : FVec Ideal S1x256 .f32} (hv : Row v (pull α 0 768) 768) :
    Line (k0_pay58 (k0_pay54 a) v) (rank α) 768 :=
  line_of 768 1280 rfl ha hv fun i => ⟨⟨768 + i, by omega⟩, fun k => ⟨768 + k, by omega⟩, rfl, fun _ => rfl, by
    pointwise [k0_pay58, k0_pay54, k0_pay50, k0_pay52]⟩

/-- The ranks of block 4. -/
theorem line4 (ha : Scores a α) {v : FVec Ideal S1x256 .f32} (hv : Row v (pull α 0 1024) 1024) :
    Line (k0_pay71 a v) (rank α) 1024 :=
  line_of 1024 1024 rfl ha hv fun i => ⟨⟨1024 + i, by omega⟩, fun k => ⟨1024 + k, by omega⟩, rfl, fun _ => rfl, by
    pointwise [k0_pay71, k0_pay66, k0_pay68]⟩

/-- The ranks of block 5. -/
theorem line5 (ha : Scores a α) {v : FVec Ideal S1x256 .f32} (hv : Row v (pull α 0 1280) 1280) :
    Line (k0_pay84 (k0_pay83 a) v) (rank α) 1280 :=
  line_of 1280 768 rfl ha hv fun i => ⟨⟨1280 + i, by omega⟩, fun k => ⟨1280 + k, by omega⟩, rfl, fun _ => rfl, by
    pointwise [k0_pay84, k0_pay83, k0_pay79, k0_pay81]⟩

/-- The ranks of block 6. -/
theorem line6 (ha : Scores a α) {v : FVec Ideal S1x256 .f32} (hv : Row v (pull α 0 1536) 1536) :
    Line (k0_pay98 a v) (rank α) 1536 :=
  line_of 1536 512 rfl ha hv fun i => ⟨⟨1536 + i, by omega⟩, fun k => ⟨1536 + k, by omega⟩, rfl, fun _ => rfl, by
    pointwise [k0_pay98, k0_pay92, k0_pay94]⟩

/-- The ranks of block 7. -/
theorem line7 (ha : Scores a α) {v : FVec Ideal S1x256 .f32} (hv : Row v (pull α 0 1792) 1792) :
    Line (k0_pay109 (k0_pay106 a) v) (rank α) 1792 :=
  line_of 1792 256 rfl ha hv fun i => ⟨⟨1792 + i, by omega⟩, fun k => ⟨1792 + k, by omega⟩, rfl, fun _ => rfl, by
    pointwise [k0_pay109, k0_pay106, k0_pay108]⟩

/-! ## The sums over the row and the accumulator -/

/-- A block's sum of products added to the sum so far. -/
theorem dot_step {x y : FVec Ideal S256 .f32} {f g : ℕ → ℝ} {s : Ideal .f32} (lo : ℕ) (hx : Line x f lo) (hy : Line y g lo)
    (hs : (s : EReal) = ((cross f g lo : ℝ) : EReal)) : (k0_pay47 s x y : EReal) = ((cross f g (lo + 256) : ℝ) : EReal) := by
  have e : (k0_pay47 s x y : EReal) = s + ∑ k : Fin 256, x (ix1 k) * y (ix1 k) := by pointwise [k0_pay47]
  rw [e, hs]
  rw [Finset.sum_congr rfl fun k _ => congrArg₂ (· * ·) (hx k) (hy k)]
  exact cross_step f g lo 256

/-- The scores of a row of reals are the reals times the named constant. -/
theorem scores_of {P : Vec Ideal S1x1x2048 .f32} {p : ℕ → ℝ}
    (hP : ∀ j : Fin 2048, (P (ix3 (0 : Fin 1) (0 : Fin 1) j) : EReal) = ((p j : ℝ) : EReal)) :
    Scores (k0_pay4 P) fun j => 67108864 / 13421773 * p j := by
  intro j
  have e : (k0_pay4 P (ix1 j) : EReal)
      = P (ix3 (0 : Fin 1) (0 : Fin 1) j) * (Named.named (F := Ideal) κ "half_over_temperature" 0x40A00000#32 : Ideal .f32) := by
    pointwise [k0_pay4]
  rw [e, hP j, IdealRules.named_const.ideal_named_scalar _ _ _ _ rfl, mul_comm]
  exact (EReal.coe_mul _ _).symm

/-- The root of the mean square, from the sum of squares. -/
def root (s : Ideal .f32) : Ideal .f32 :=
  Scalar.sqrt (Scalar.addf (Scalar.divf s (Scalar.ofBits .f32 0x45000000#32)) (Scalar.ofBits .f32 0x322BCC77#32))

/-- It is the spread of the row. -/
theorem root_of {s : Ideal .f32} {x : ℕ → ℝ} (h : (s : EReal) = ((cross x x 2048 : ℝ) : EReal)) :
    (root s : EReal) = ((spread x : ℝ) : EReal) := by
  have e : (root s : EReal) = Ideal.sqrt (Ideal.div s (Ideal.ofBits .f32 0x45000000#32) + Ideal.ofBits .f32 0x322BCC77#32) := rfl
  rw [e, h, word_2048, word_eps, div_real (by norm_num), ← EReal.coe_add, sqrt_real (under_nonneg x), spread]

/-- The accumulator takes one row's part: one minus the correlation, over the number of rows. -/
theorem acc_of {s a b acc : Ideal .f32} {x y : ℕ → ℝ} {r : ℝ} (hs : (s : EReal) = ((cross x y 2048 : ℝ) : EReal))
    (ha : (a : EReal) = ((spread x : ℝ) : EReal)) (hb : (b : EReal) = ((spread y : ℝ) : EReal))
    (hacc : (acc : EReal) = ((r : ℝ) : EReal)) :
    (k0_pay1 s a b acc : EReal) = ((r + (1 - rho x y) / 8 : ℝ) : EReal) := by
  have e : (k0_pay1 s a b acc : EReal) = acc + Ideal.div (Ideal.ofBits .f32 0x3F800000#32 -
      Ideal.div (Ideal.div s (Ideal.ofBits .f32 0x45000000#32)) (a * b + Ideal.ofBits .f32 0x322BCC77#32))
        (Ideal.ofBits .f32 0x41000000#32) := rfl
  rw [e, hs, ha, hb, hacc, word_2048, word_eps, word_8, div_real (by norm_num), ← EReal.coe_mul, ← EReal.coe_add,
    div_real (denom_pos x y).ne', show Ideal.ofBits .f32 0x3F800000#32 = ((1 : ℝ) : EReal) from word_one, ← EReal.coe_sub,
    div_real (by norm_num), ← EReal.coe_add, rho]

end Cert.KernelIdeal.Val

end
-- ==== Proof.Body.lean ====
/-
  One point of the grid as a function of the two rows it loads: the rows of pulls after each block, the rank rows,
  the sums and the accumulator — and their values over real scores.
-/
module

public import proofs.«01_k».proof.Proof.Blocks

@[expose] public section

set_option maxRecDepth 16384

noncomputable section

namespace Cert.KernelIdeal.Val

open Idealize.ShloMosaic Idealize.ShloMosaic.Pipeline Cert.KernelIdeal.Gen Cert.Soft
open scoped BigOperators

/-- The stores into a row of pulls, newest first. -/
abbrev Stores := List (View.Piece (Elt Ideal) S1x2048 .f32)

/-- The `w` columns of a row from column `o` on. -/
abbrev cols (o w : ℕ) (h : o + w ≤ 2048) : Rect S1x2048 :=
  Rect.unit ![0, o] ![1, w] (Fin.forall_fin_two.mpr ⟨le_refl 1, h⟩)

/-- A store of `w` columns from column `o` on. -/
def put (o w : ℕ) (h : o + w ≤ 2048) (x : FVec Ideal ⟨2, ![1, w]⟩ .f32) (L : Stores) : Stores := ⟨cols o w h, x⟩ :: L

/-- The buffer of a row of pulls. -/
abbrev Buf := Memref sig .tc .vmem S1x2048 .f32

/-- A load of `w` columns from column `o` on. -/
def get (M : Buf) (L : Stores) (o w : ℕ) (h : o + w ≤ 2048) : FVec Ideal ⟨2, ![1, w]⟩ .f32 :=
  M.view.readCov L (cols o w h).toLoadRect

/-- After the stores `L` the row holds `g` from column `lo` on. -/
def Holds (L : Stores) (g : ℕ → ℝ) (lo : ℕ) : Prop :=
  ∀ j : Fin 2048, lo ≤ j → (View.canon L (ix2 (0 : Fin 1) j) : EReal) = ((g j : ℝ) : EReal)

/-- Where a range of columns puts its column `i`: `o` columns further. -/
theorem cols_emb {o w : ℕ} (h : o + w ≤ 2048) (i : Fin w) :
    (cols o w h).emb (ix2 (0 : Fin 1) i) = ix2 (0 : Fin 1) (⟨o + i, by omega⟩ : Fin 2048) := by
  refine funext fun a => ?_
  refine Fin.cases ?_ (fun b => ?_) a
  · rfl
  · obtain rfl : b = 0 := Subsingleton.elim _ _
    exact Fin.ext (by show o + 1 * (i : ℕ) = o + i; rw [one_mul])

/-- A load of columns the row holds reads them. -/
theorem Holds.get {L : Stores} {g : ℕ → ℝ} {lo : ℕ} (hL : Holds L g lo) (M : Buf) (o w : ℕ) (h : o + w ≤ 2048) (ho : lo ≤ o) :
    Row (get M L o w h) g o := by
  intro i
  have e : (Val.get M L o w h) (ix2 (0 : Fin 1) i) = View.canon L ((cols o w h).emb (ix2 (0 : Fin 1) i)) := by
    unfold Val.get; rw [View.readCov_eq_canon']; rfl
  rw [e, cols_emb]
  exact hL _ (ho.trans (Nat.le_add_right _ _))

/-- A store of the rest of the row makes it hold what was stored. -/
theorem holds_put {L : Stores} {g : ℕ → ℝ} {o w : ℕ} {h : o + w ≤ 2048} {x : FVec Ideal ⟨2, ![1, w]⟩ .f32} (hw : o + w = 2048)
    (hx : Row x g o) : Holds (put o w h x L) g o := by
  intro j hj
  have e : ix2 (0 : Fin 1) j = (cols o w h).emb (ix2 (0 : Fin 1) (⟨j - o, by omega⟩ : Fin w)) := by
    rw [cols_emb]; congr 1; exact Fin.ext (by simp only []; omega)
  rw [e]
  refine (View.canon_cons_emb (cols o w h) x L _).trans ((hx _).trans ?_)
  rw [show o + ((⟨j - o, by omega⟩ : Fin w) : ℕ) = j from Nat.add_sub_of_le hj]

variable (M N : Buf) (P T : Vec Ideal S1x1x2048 .f32)

/-! ## The row of pulls after each block -/

/-- At first the row is zero. -/
def st0 : Stores := put 0 2048 (le_refl _) k0_pay2 []
/-- After block 0. -/
def st1 : Stores := put 256 1792 (by norm_num) (k0_pay13 (k0_pay6 P) k0_pay9 (get M st0 256 1792 (by norm_num))) st0
/-- After block 1. -/
def st2 : Stores := put 512 1536 (by norm_num) (k0_pay29 (k0_pay24 (k0_pay4 P)) (get M (st1 M P) 512 1536 (by norm_num))) (st1 M P)
/-- After block 2. -/
def st3 : Stores := put 768 1280 (by norm_num)
  (k0_pay44 (k0_pay34 (k0_pay4 P)) (k0_pay35 (k0_pay4 P)) (get M (st2 M P) 768 1280 (by norm_num))) (st2 M P)
/-- After block 3. -/
def st4 : Stores := put 1024 1024 (by norm_num) (k0_pay60 (k0_pay56 (k0_pay4 P)) (get M (st3 M P) 1024 1024 (by norm_num))) (st3 M P)
/-- After block 4. -/
def st5 : Stores := put 1280 768 (by norm_num) (k0_pay74 (k0_pay73 (k0_pay4 P) (get M (st4 M P) 1280 768 (by norm_num)))) (st4 M P)
/-- After block 5. -/
def st6 : Stores := put 1536 512 (by norm_num) (k0_pay86 (k0_pay79 (k0_pay4 P)) k0_pay82 (get M (st5 M P) 1536 512 (by norm_num))) (st5 M P)
/-- After block 6. -/
def st7 : Stores := put 1792 256 (by norm_num) (k0_pay100 (k0_pay96 (k0_pay4 P)) (get M (st6 M P) 1792 256 (by norm_num))) (st6 M P)

/-! ## The rank rows -/

/-- The rank row of block 0. -/
def rk0 : FVec Ideal S256 .f32 := k0_pay11 k0_pay8 (k0_pay10 P) (get M st0 0 256 (by norm_num))
/-- The rank row of block 1. -/
def rk1 : FVec Ideal S256 .f32 := k0_pay26 (k0_pay4 P) (get M (st1 M P) 256 256 (by norm_num))
/-- The rank row of block 2. -/
def rk2 : FVec Ideal S256 .f32 := k0_pay42 (k0_pay34 (k0_pay4 P)) (k0_pay35 (k0_pay4 P)) (get M (st2 M P) 512 256 (by norm_num))
/-- The rank row of block 3. -/
def rk3 : FVec Ideal S256 .f32 := k0_pay58 (k0_pay54 (k0_pay4 P)) (get M (st3 M P) 768 256 (by norm_num))
/-- The rank row of block 4. -/
def rk4 : FVec Ideal S256 .f32 := k0_pay71 (k0_pay4 P) (get M (st4 M P) 1024 256 (by norm_num))
/-- The rank row of block 5. -/
def rk5 : FVec Ideal S256 .f32 := k0_pay84 (k0_pay83 (k0_pay4 P)) (get M (st5 M P) 1280 256 (by norm_num))
/-- The rank row of block 6. -/
def rk6 : FVec Ideal S256 .f32 := k0_pay98 (k0_pay4 P) (get M (st6 M P) 1536 256 (by norm_num))
/-- The rank row of block 7. -/
def rk7 : FVec Ideal S256 .f32 := k0_pay109 (k0_pay106 (k0_pay4 P)) (get M (st7 M P) 1792 256 (by norm_num))

/-- The sum over the row of the products of two rows of ranks, block by block. -/
def dots : Ideal .f32 :=
  k0_pay47 (k0_pay47 (k0_pay47 (k0_pay47 (k0_pay47 (k0_pay47 (k0_pay47 (k0_pay47 (Scalar.ofBits .f32 0x00000000#32)
    (rk0 M P) (rk0 N T)) (rk1 M P) (rk1 N T)) (rk2 M P) (rk2 N T)) (rk3 M P) (rk3 N T)) (rk4 M P) (rk4 N T))
    (rk5 M P) (rk5 N T)) (rk6 M P) (rk6 N T)) (rk7 M P) (rk7 N T)

/-- The accumulator after a point. -/
def newAcc (acc : Ideal .f32) : Ideal .f32 :=
  k0_pay1 (dots M N P T) (root (dots M M P P)) (root (dots N N T T)) acc

/-! ## Their values -/

variable {α β : ℕ → ℝ}

/-- Zero is the pull of no score. -/
theorem holds0 : Holds st0 (pull α 0 0) 0 := holds_put rfl fun i => by
  have e : (k0_pay2 (F := Ideal) (ix2 (0 : Fin 1) i) : EReal) = 0 := by pointwise [k0_pay2]
  rw [e]; simp [pull]

variable (ha : Scores (k0_pay4 P) α)
include ha

/-- After strip 1 the pulls on the columns from 256 on are those of the first 256 scores. -/
theorem holds1 : Holds (st1 M P) (pull α 0 256) 256 := holds_put rfl (row0 ha (holds0.get M _ _ _ (Nat.zero_le _)))
/-- After strip 2 the pulls on the columns from 512 on are those of the first 512 scores. -/
theorem holds2 : Holds (st2 M P) (pull α 0 512) 512 := holds_put rfl (row1 ha ((holds1 M P ha).get M _ _ _ (by norm_num)))
/-- After strip 3 the pulls on the columns from 768 on are those of the first 768 scores. -/
theorem holds3 : Holds (st3 M P) (pull α 0 768) 768 := holds_put rfl (row2 ha ((holds2 M P ha).get M _ _ _ (by norm_num)))
/-- After strip 4 the pulls on the columns from 1024 on are those of the first 1024 scores. -/
theorem holds4 : Holds (st4 M P) (pull α 0 1024) 1024 := holds_put rfl (row3 ha ((holds3 M P ha).get M _ _ _ (by norm_num)))
/-- After strip 5 the pulls on the columns from 1280 on are those of the first 1280 scores. -/
theorem holds5 : Holds (st5 M P) (pull α 0 1280) 1280 := holds_put rfl (row4 ha ((holds4 M P ha).get M _ _ _ (by norm_num)))
/-- After strip 6 the pulls on the columns from 1536 on are those of the first 1536 scores. -/
theorem holds6 : Holds (st6 M P) (pull α 0 1536) 1536 := holds_put rfl (row5 ha ((holds5 M P ha).get M _ _ _ (by norm_num)))
/-- After strip 7 the pulls on the columns from 1792 on are those of the first 1792 scores. -/
theorem holds7 : Holds (st7 M P) (pull α 0 1792) 1792 := holds_put rfl (row6 ha ((holds6 M P ha).get M _ _ _ (by norm_num)))

/-- Every rank row holds its block of the ranks. -/
theorem lines : Line (rk0 M P) (rank α) 0 ∧ Line (rk1 M P) (rank α) 256 ∧ Line (rk2 M P) (rank α) 512 ∧
    Line (rk3 M P) (rank α) 768 ∧ Line (rk4 M P) (rank α) 1024 ∧ Line (rk5 M P) (rank α) 1280 ∧
    Line (rk6 M P) (rank α) 1536 ∧ Line (rk7 M P) (rank α) 1792 :=
  ⟨line0 ha (holds0.get M _ _ _ (le_refl _)), line1 ha ((holds1 M P ha).get M _ _ _ (le_refl _)),
    line2 ha ((holds2 M P ha).get M _ _ _ (le_refl _)), line3 ha ((holds3 M P ha).get M _ _ _ (le_refl _)),
    line4 ha ((holds4 M P ha).get M _ _ _ (le_refl _)), line5 ha ((holds5 M P ha).get M _ _ _ (le_refl _)),
    line6 ha ((holds6 M P ha).get M _ _ _ (le_refl _)), line7 ha ((holds7 M P ha).get M _ _ _ (le_refl _))⟩

variable (hb : Scores (k0_pay4 T) β)
include hb

/-- The sum of the products of two rows of ranks. -/
theorem dots_eq : (dots M N P T : EReal) = ((cross (rank α) (rank β) 2048 : ℝ) : EReal) := by
  obtain ⟨x0, x1, x2, x3, x4, x5, x6, x7⟩ := lines M P ha
  obtain ⟨y0, y1, y2, y3, y4, y5, y6, y7⟩ := lines N T hb
  have z : (Scalar.ofBits (F := Ideal) .f32 0x00000000#32 : EReal) = ((cross (rank α) (rank β) 0 : ℝ) : EReal) := by
    rw [cross_zero]; exact word_zero
  exact dot_step 1792 x7 y7 (dot_step 1536 x6 y6 (dot_step 1280 x5 y5 (dot_step 1024 x4 y4 (dot_step 768 x3 y3
    (dot_step 512 x2 y2 (dot_step 256 x1 y1 (dot_step 0 x0 y0 z)))))))

/-- A point adds its row's part to the accumulator. -/
theorem newAcc_eq {acc : Ideal .f32} {r : ℝ} (hacc : (acc : EReal) = ((r : ℝ) : EReal)) :
    (newAcc M N P T acc : EReal) = ((r + (1 - rho (rank α) (rank β)) / 8 : ℝ) : EReal) :=
  acc_of (dots_eq M N P T ha hb) (root_of (dots_eq M M P P ha ha)) (root_of (dots_eq N N T T hb hb)) hacc

end Cert.KernelIdeal.Val

end
-- ==== Proof.Bridge.lean ====
/-
  What the body of the kernel leaves at a point, in each case of its conditionals, is the function of one point.
-/
module

public import proofs.«01_k».proof.Proof.Body
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Pipeline Cert.KernelIdeal.Gen

/-- The load of a whole row. -/
def loaded (M : Memref sig .tc .vmem S1x1x2048 .f32) (h : M.IsWhole) (x : Vec Ideal S1x1x2048 .f32) : Vec Ideal S1x1x2048 .f32 :=
  View.readAt (Elt Ideal) M.view (Rect.unit (s := S1x1x2048) ![0, 0, 0] S1x1x2048.size facts.inb_S1x1x2048_S1x1x2048_0_0_0).toLoadRect (h.unread x)

/-- It reads the row. -/
theorem loaded_eq (M : Memref sig .tc .vmem S1x1x2048 .f32) (h : M.IsWhole) (x : Vec Ideal S1x1x2048 .f32) : loaded M h x = x := by
  unfold loaded
  rw [View.readAt_eq_ld, h.read_unread]
  exact View.ld_unit_lit _ _ (by decide)

/-- The load of the accumulator. -/
def loadedAcc (M : Memref sig .tc .smem S1 .f32) (h : M.IsWhole) (x : Vec Ideal S1 .f32) : Ideal .f32 :=
  View.readAt (Elt Ideal) M.view (Rect.unit (s := S1) ![0] ![1] facts.inb_S1_S1_0).toLoadRect (h.unread x) (Shape.Idx.first (by decide))

/-- It reads the accumulator. -/
theorem loadedAcc_eq (M : Memref sig .tc .smem S1 .f32) (h : M.IsWhole) (x : Vec Ideal S1 .f32) :
    loadedAcc M h x = x (ix1 (0 : Fin 1)) := by
  unfold loadedAcc
  rw [View.readAt_eq_ld, h.read_unread]
  exact congrArg x (funext fun a => by
    obtain rfl : a = 0 := Subsingleton.elim _ _
    exact Subsingleton.elim (α := Fin 1) _ _)

/-- The accumulator before any point. -/
def start : Ideal .f32 := Scalar.ofBits .f32 0x00000000#32

variable (c : Dev nD) (i : grid0.Coords) (arg1 : Memref sig .tc .vmem S1x1x2048 .f32) (harg1 : arg1.IsWhole)
  (arg2 : Memref sig .tc .vmem S1x1x2048 .f32) (harg2 : arg2.IsWhole) (arg3 : Memref sig .tc .smem S1x1 .f32) (harg3 : arg3.IsWhole)
  (arg4 : Memref sig .tc .smem S1 .f32) (harg4 : arg4.IsWhole) (arg5 : Memref sig .tc .vmem S1x2048 .f32) (harg5 : arg5.IsWhole)
  (arg6 : Memref sig .tc .vmem S1x2048 .f32) (harg6 : arg6.IsWhole) (x0 x1 : Vec Ideal S1x1x2048 .f32) (xs0 : Vec Ideal S1 .f32)

/-- A point that is neither first nor last leaves the new accumulator. -/
theorem acc_B (hc0 : ¬cond0_0 i) (hc1 : ¬cond0_1 i) :
    sout0_B_0 c i arg1 harg1 arg2 harg2 arg3 harg3 arg4 harg4 arg5 harg5 arg6 harg6 hc0 hc1 x0 x1 xs0 = fun _ => newAcc arg5 arg6 x0 x1 (xs0 (ix1 (0 : Fin 1))) := by
  have e : sout0_B_0 c i arg1 harg1 arg2 harg2 arg3 harg3 arg4 harg4 arg5 harg5 arg6 harg6 hc0 hc1 x0 x1 xs0 = VS0_0.read (Elt Ideal) (VS0_0.writes (Elt Ideal) VS0_0.junk
      [⟨Rect.unit (s := S1) ![0] S1.size facts.inb_S1_S1_0,
        fun _ => newAcc arg5 arg6 (loaded arg1 harg1 x0) (loaded arg2 harg2 x1) (loadedAcc arg4 harg4 xs0)⟩]) := rfl
  rw [e, View.read_writes_junk_eq_canon, View.canon_cons_unit_lit _ _ _ (by decide), loaded_eq, loaded_eq, loadedAcc_eq]
  rfl

/-- The last point leaves it too, -/
theorem acc_C (hc0 : ¬cond0_0 i) (hc1 : cond0_1 i) :
    sout0_C_0 c i arg1 harg1 arg2 harg2 arg3 harg3 arg4 harg4 arg5 harg5 arg6 harg6 hc0 hc1 x0 x1 xs0 = fun _ => newAcc arg5 arg6 x0 x1 (xs0 (ix1 (0 : Fin 1))) := by
  have e : sout0_C_0 c i arg1 harg1 arg2 harg2 arg3 harg3 arg4 harg4 arg5 harg5 arg6 harg6 hc0 hc1 x0 x1 xs0 = VS0_0.read (Elt Ideal) (VS0_0.writes (Elt Ideal) VS0_0.junk
      [⟨Rect.unit (s := S1) ![0] S1.size facts.inb_S1_S1_0,
        fun _ => newAcc arg5 arg6 (loaded arg1 harg1 x0) (loaded arg2 harg2 x1) (loadedAcc arg4 harg4 xs0)⟩]) := rfl
  rw [e, View.read_writes_junk_eq_canon, View.canon_cons_unit_lit _ _ _ (by decide), loaded_eq, loaded_eq, loadedAcc_eq]
  rfl

/-- and stores it as the result. -/
theorem out_C (hc0 : ¬cond0_0 i) (hc1 : cond0_1 i) :
    out0_C_2 c i arg1 harg1 arg2 harg2 arg3 harg3 arg4 harg4 arg5 harg5 arg6 harg6 hc0 hc1 x0 x1 xs0 = fun _ => newAcc arg5 arg6 x0 x1 (xs0 (ix1 (0 : Fin 1))) := by
  have e : out0_C_2 c i arg1 harg1 arg2 harg2 arg3 harg3 arg4 harg4 arg5 harg5 arg6 harg6 hc0 hc1 x0 x1 xs0 = VO0_2.read (Elt Ideal) (VO0_2.writes (Elt Ideal) VO0_2.junk
      [⟨Rect.unit (s := S1x1) ![0, 0] S1x1.size facts.inb_S1x1_S1x1_0_0,
        fun _ => newAcc arg5 arg6 (loaded arg1 harg1 x0) (loaded arg2 harg2 x1) (loadedAcc arg4 harg4 xs0)⟩]) := rfl
  rw [e, View.read_writes_junk_eq_canon, View.canon_cons_unit_lit _ _ _ (by decide), loaded_eq, loaded_eq, loadedAcc_eq]
  rfl

/-- The first point starts the accumulator at zero. -/
theorem acc_A (hc0 : cond0_0 i) (hc1 : ¬cond0_1 i) :
    sout0_A_0 c i arg1 harg1 arg2 harg2 arg3 harg3 arg4 harg4 arg5 harg5 arg6 harg6 hc0 hc1 x0 x1 = fun _ => newAcc arg5 arg6 x0 x1 start := by
  have e : sout0_A_0 c i arg1 harg1 arg2 harg2 arg3 harg3 arg4 harg4 arg5 harg5 arg6 harg6 hc0 hc1 x0 x1 = VS0_0.read (Elt Ideal) (VS0_0.writes (Elt Ideal) VS0_0.junk
      [⟨Rect.unit (s := S1) ![0] S1.size facts.inb_S1_S1_0,
        fun _ => newAcc arg5 arg6 (loaded arg1 harg1 x0) (loaded arg2 harg2 x1) start⟩,
       ⟨Rect.unit (s := S1) ![0] S1.size facts.inb_S1_S1_0, fun _ => start⟩]) := rfl
  rw [e, View.read_writes_junk_eq_canon, View.canon_cons_unit_lit _ _ _ (by decide), loaded_eq, loaded_eq]
  rfl

/-! ## Point by point -/

variable (m : (ℓ : Loc nD τ sig) → Idealize.ShloMosaic.Buf (Elt Ideal) ℓ) (t : Fin cfg0.N)

/-- The accumulator after the first point. -/
theorem point_A (h0 : t.val % 8 = 0) (h1 : ¬t.val % 8 = 7) : (outsAt0 m c t.val t.isLt).2
    = fun _ => newAcc scM0_1 scM0_2 (iblk m c 0 t) (iblk m c 1 t) start := by
  rw [outsAt0_A m c t h0 h1]; dsimp only; apply acc_A

/-- The accumulator after a later point. -/
theorem point_BC (h0 : ¬t.val % 8 = 0) : (outsAt0 m c t.val t.isLt).2
    = fun _ => newAcc scM0_1 scM0_2 (iblk m c 0 t) (iblk m c 1 t)
        ((outsAt0 m c (t.val - 1) (Nat.lt_of_le_of_lt (Nat.sub_le _ _) t.isLt)).2 (ix1 (0 : Fin 1))) := by
  by_cases h1 : t.val % 8 = 7
  · rw [outsAt0_C m c t h0 h1]; dsimp only; apply acc_C
  · rw [outsAt0_B m c t h0 h1]; dsimp only; apply acc_B

/-- The result the last point stores. -/
theorem point_out (h0 : ¬t.val % 8 = 0) (h1 : t.val % 8 = 7) : (outsAt0 m c t.val t.isLt).1
    = fun _ => newAcc scM0_1 scM0_2 (iblk m c 0 t) (iblk m c 1 t)
        ((outsAt0 m c (t.val - 1) (Nat.lt_of_le_of_lt (Nat.sub_le _ _) t.isLt)).2 (ix1 (0 : Fin 1))) := by
  rw [outsAt0_C m c t h0 h1]; dsimp only; apply out_C

end Cert.KernelIdeal.Val

end
-- ==== Proof.KernelValue.lean ====
/-
  The kernel's result over arguments that are real: the accumulator point by point, the block the last point stores,
  the run.
-/
module

public import proofs.«01_k».proof.Proof.Bridge
public import Idealize.ShloMosaic.Lib.Claim

@[expose] public section

set_option maxRecDepth 16384

noncomputable section

namespace Cert.KernelIdeal.Val

open Idealize.ShloMosaic Idealize.ShloMosaic.TcCoe Idealize.SL.Sem Cert.KernelIdeal Cert.KernelIdeal.Gen Cert.Soft
open Idealize.ShloMosaic.Pipeline (Dat)

variable (m : (ℓ : Loc nD τ sig) → Idealize.ShloMosaic.Buf (Elt Ideal) ℓ) (c : Dev nD)

/-- The windows' block indices: the point's row of each argument, and the one block of the result. -/
theorem idx : ∀ t : Fin cfg0.N, win0_0.index t = ![t.val, 0, 0] ∧ win0_1.index t = ![t.val, 0, 0] ∧ win0_2.index t = ![0, 0] :=
  (by decide +kernel : ∀ t : Fin grid0.N, _)

/-- The first operand is the first argument under another shape, -/
theorem entry0 : V m c main_v0 = shapeCast S8x1x2048 (m ((c : Thread nD τ).loc main_arg0)) facts.shapeCasts_S8x2048_S8x1x2048 := by
  entry_read; try rfl

/-- and the second the second. -/
theorem entry1 : V m c main_v1 = shapeCast S8x1x2048 (m ((c : Thread nD τ).loc main_arg1)) facts.shapeCasts_S8x2048_S8x1x2048 := by
  entry_read; try rfl

/-- The first operand's block at a point is the point's row of the first argument. -/
theorem block0 (t : Fin cfg0.N) (ht : t.val < 8) (j : Fin 2048) :
    (show Vec Ideal S1x1x2048 .f32 from iblk m c 0 t) (ix3 (0 : Fin 1) (0 : Fin 1) j)
      = m ((c : Thread nD τ).loc main_arg0) (ix2 (⟨t.val, ht⟩ : Fin 8) j) := by
  show V m c main_v0 (((cfg0.win 0).blk t).view.emb (ix3 (0 : Fin 1) (0 : Fin 1) j)) = _
  rw [entry0]
  pointwise
  blk_point [idx t]

/-- The second operand's block at a point is the point's row of the second argument. -/
theorem block1 (t : Fin cfg0.N) (ht : t.val < 8) (j : Fin 2048) :
    (show Vec Ideal S1x1x2048 .f32 from iblk m c 1 t) (ix3 (0 : Fin 1) (0 : Fin 1) j)
      = m ((c : Thread nD τ).loc main_arg1) (ix2 (⟨t.val, ht⟩ : Fin 8) j) := by
  show V m c main_v1 (((cfg0.win 1).blk t).view.emb (ix3 (0 : Fin 1) (0 : Fin 1) j)) = _
  rw [entry1]
  pointwise
  blk_point [idx t]

variable {p t : ℕ → ℕ → ℝ}
  (hp : ∀ (r : Fin 8) (j : Fin 2048), (m ((c : Thread nD τ).loc main_arg0) (ix2 r j) : EReal) = ((p r j : ℝ) : EReal))
  (ht : ∀ (r : Fin 8) (j : Fin 2048), (m ((c : Thread nD τ).loc main_arg1) (ix2 r j) : EReal) = ((t r j : ℝ) : EReal))
include hp ht

/-- A point takes the accumulator from the sum over the rows before to the sum with its own row. -/
theorem step (s : Fin cfg0.N) {acc : Ideal .f32} (hacc : (acc : EReal) = ((score p t s.val : ℝ) : EReal)) :
    (newAcc scM0_1 scM0_2 (iblk m c 0 s) (iblk m c 1 s) acc : EReal) = ((score p t (s.val + 1) : ℝ) : EReal) := by
  have hs : s.val < 8 := lt_of_lt_of_eq s.isLt N_0
  rw [newAcc_eq scM0_1 scM0_2 (iblk m c 0 s) (iblk m c 1 s)
    (scores_of (p := p s.val) fun j => (block0 m c s hs j).trans (hp ⟨s.val, hs⟩ j))
    (scores_of (p := t s.val) fun j => (block1 m c s hs j).trans (ht ⟨s.val, hs⟩ j)) hacc]
  rw [score, score, Finset.sum_range_succ]; rfl

/-- The accumulator after a point holds the sum over the rows so far. -/
theorem carried (n : ℕ) (hn : n < cfg0.N) :
    ((outsAt0 m c n hn).2 (ix1 (0 : Fin 1)) : EReal) = ((score p t (n + 1) : ℝ) : EReal) := by
  induction n with
  | zero =>
    rw [point_A c m ⟨0, hn⟩ rfl (by simp)]
    exact step m c hp ht ⟨0, hn⟩ (by rw [show score p t 0 = 0 from Finset.sum_range_zero _]; exact word_zero)
  | succ n ih =>
    have h8 : n + 1 < 8 := lt_of_lt_of_eq hn N_0
    rw [point_BC c m ⟨n + 1, hn⟩ (by simp only []; omega)]
    exact step m c hp ht ⟨n + 1, hn⟩ (ih _)

/-- The last point. -/
abbrev last : Fin cfg0.N := ⟨7, lt_of_lt_of_eq (by norm_num : 7 < 8) N_0.symm⟩

/-- The result array after the run holds the sum over all rows. -/
theorem final : (dats m 0 c).arrAt 2 (cfgs 0).N = fun _ => ((score p t 8 : ℝ) : EReal) := by
  refine (dats m 0 c).arrAt_eq_of_after_last 2 last (by decide +kernel) _ fun j => ?_
  blk_simp
  rw [after0_2, point_out c m last (by decide) (by decide)]
  exact step m c hp ht last (carried m c hp ht 6 _)

end Cert.KernelIdeal.Val

end
-- ==== Proof.RefValue.lean ====
/-
  The reference's result over arguments that are real.
-/
module

public import proofs.«01_k».proof.Proof.RealPart
public import proofs.«01_k».proof.Proof.Gen.ReferenceIdeal.Run
public import Idealize.ShloMosaic.Lib.Pointwise

@[expose] public section

set_option maxRecDepth 16384

noncomputable section

namespace Cert.ReferenceIdeal.Val

open Idealize.ShloMosaic Idealize.ShloMosaic.TcCoe Cert.ReferenceIdeal Cert.ReferenceIdeal.Gen Cert.Soft

/-- The soft ranks of an array. -/
def soft (x : FVec Ideal S8x2048 .f32) : FVec Ideal S8x2048 .f32 :=
  addf (Host.reduceAdd (Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf (Host.divf
      (subf (broadcastInDim S8x2048x2048 ![0, 1, 2] bcast_S8x2048x1_S8x2048x2048_0_1_2 (broadcastInDim S8x2048x1 ![0, 1] bcast_S8x2048_S8x2048x1_0_1 x))
        (broadcastInDim S8x2048x2048 ![0, 1, 2] bcast_S8x1x2048_S8x2048x2048_0_1_2 (broadcastInDim S8x1x2048 ![0, 2] bcast_S8x2048_S8x1x2048_0_2 x)))
      (broadcastInDim S8x2048x2048 ![] bcast_S_S8x2048x2048 (constant S_ .f32 0x3DCCCCCD#32)))))))
    (constant S_ .f32 0x00000000#32) reducesTo_S8x2048x2048_S8x2048_d2 h_S_)
    (broadcastInDim S8x2048 ![] bcast_S_S8x2048 (constant S_ .f32 0x3F000000#32))

/-- An array less the means of its rows. -/
def centred (s : FVec Ideal S8x2048 .f32) : FVec Ideal S8x2048 .f32 :=
  subf s (broadcastInDim S8x2048 ![0, 1] bcast_S8x1_S8x2048_0_1 (Host.divf (broadcastInDim S8x1 ![0] bcast_S8_S8x1_0
    (Host.reduceAdd s (constant S_ .f32 0x00000000#32) reducesTo_S8x2048_S8_d1 h_S_))
    (broadcastInDim S8x1 ![] bcast_S_S8x1 (constant S_ .f32 0x45000000#32))))

/-- The means of the products of the rows. -/
def means (x y : FVec Ideal S8x2048 .f32) : FVec Ideal S8 .f32 :=
  Host.divf (Host.reduceAdd (mulf x y) (constant S_ .f32 0x00000000#32) reducesTo_S8x2048_S8_d1 h_S_)
    (broadcastInDim S8 ![] bcast_S_S8 (constant S_ .f32 0x45000000#32))

/-- The roots of the mean squares. -/
def roots (x : FVec Ideal S8x2048 .f32) : FVec Ideal S8 .f32 :=
  Host.sqrt (addf (means x x) (broadcastInDim S8 ![] bcast_S_S8 (constant S_ .f32 0x322BCC77#32)))

/-- One minus the correlation, row by row. -/
def parts (x y : FVec Ideal S8x2048 .f32) : FVec Ideal S8 .f32 :=
  subf (broadcastInDim S8 ![] bcast_S_S8 (constant S_ .f32 0x3F800000#32)) (Host.divf (means x y)
    (addf (mulf (roots x) (roots y)) (broadcastInDim S8 ![] bcast_S_S8 (constant S_ .f32 0x322BCC77#32))))

/-- The mean over the rows. -/
def total (d : FVec Ideal S8 .f32) : FVec Ideal S_ .f32 :=
  Host.divf (Host.reduceAdd d (constant S_ .f32 0x00000000#32) reducesTo_S8_S_d0 h_S_) (constant S_ .f32 0x41000000#32)

variable {p t : ℕ → ℕ → ℝ}

/-- The array holds the reals `g r j`. -/
def Real2 (x : FVec Ideal S8x2048 .f32) (g : ℕ → ℕ → ℝ) : Prop :=
  ∀ (r : Fin 8) (j : Fin 2048), (x (ix2 r j) : EReal) = ((g r j : ℝ) : EReal)

/-- The soft ranks are the centred ranks and the mean rank. -/
theorem soft_of {x : FVec Ideal S8x2048 .f32} (h : Real2 x p) : Real2 (soft x) fun r j => ranks p r j + 2049 / 2 := by
  intro r j
  have e : (soft x (ix2 r j) : EReal) = (∑ k : Fin 2048, Ideal.div (Ideal.ofBits .f32 0x3F800000#32) (Ideal.ofBits .f32 0x3F800000#32
      + Ideal.exp (-Ideal.div (x (ix2 r j) - x (ix2 r k)) (Ideal.ofBits .f32 0x3DCCCCCD#32)))) + Ideal.ofBits .f32 0x3F000000#32 := by
    pointwise [soft]
  rw [e, word_half, ← soft_row]
  refine congrArg₂ (· + ·) (Finset.sum_congr rfl fun k _ => ?_) rfl
  rw [h r j, h r k, word_one, word_temperature]
  exact sigmoid_step _ _

/-- Less their means they are the centred ranks. -/
theorem centred_of {x : FVec Ideal S8x2048 .f32} (h : Real2 x fun r j => ranks p r j + 2049 / 2) : Real2 (centred x) (ranks p) := by
  intro r j
  have e : (centred x (ix2 r j) : EReal)
      = x (ix2 r j) - Ideal.div (∑ k : Fin 2048, x (ix2 r k)) (Ideal.ofBits .f32 0x45000000#32) := by
    pointwise [centred]
  rw [e, h r j, Finset.sum_congr rfl fun k _ => h r k, word_2048]
  exact centred_row p r j

/-- The means of the products. -/
theorem means_of {x y : FVec Ideal S8x2048 .f32} (hx : Real2 x (ranks p)) (hy : Real2 y (ranks t)) (r : Fin 8) :
    (means x y (ix1 r) : EReal) = ((cross (ranks p r) (ranks t r) 2048 / 2048 : ℝ) : EReal) := by
  have e : (means x y (ix1 r) : EReal)
      = Ideal.div (∑ k : Fin 2048, x (ix2 r k) * y (ix2 r k)) (Ideal.ofBits .f32 0x45000000#32) := by
    pointwise [means]
  rw [e, Finset.sum_congr rfl fun k _ => congrArg₂ (· * ·) (hx r k) (hy r k), word_2048]
  exact mean_row _ _

/-- The roots of the mean squares. -/
theorem roots_of {x : FVec Ideal S8x2048 .f32} (hx : Real2 x (ranks p)) (r : Fin 8) :
    (roots x (ix1 r) : EReal) = ((spread (ranks p r) : ℝ) : EReal) := by
  have e : (roots x (ix1 r) : EReal) = Ideal.sqrt (means x x (ix1 r) + Ideal.ofBits .f32 0x322BCC77#32) := by
    generalize hg : means x x = g
    pointwise [roots, hg]
  rw [e, means_of hx hx, word_eps]
  exact root_row _

/-- One minus the correlations. -/
theorem parts_of {x y : FVec Ideal S8x2048 .f32} (hx : Real2 x (ranks p)) (hy : Real2 y (ranks t)) (r : Fin 8) :
    (parts x y (ix1 r) : EReal) = ((1 - rho (ranks p r) (ranks t r) : ℝ) : EReal) := by
  have e : (parts x y (ix1 r) : EReal) = Ideal.ofBits .f32 0x3F800000#32 - Ideal.div (means x y (ix1 r))
      (roots x (ix1 r) * roots y (ix1 r) + Ideal.ofBits .f32 0x322BCC77#32) := by
    generalize hg : means x y = g
    generalize hu : roots x = u
    generalize hv : roots y = v
    pointwise [parts, hg, hu, hv]
  rw [e, means_of hx hy, roots_of hx, roots_of hy, word_eps, word_one]
  exact part_row _ _

/-- The mean over the rows. -/
theorem total_of {d : FVec Ideal S8 .f32} (hd : ∀ r : Fin 8, (d (ix1 r) : EReal) = ((1 - rho (ranks p r) (ranks t r) : ℝ) : EReal)) :
    total d = fun _ => ((score p t 8 : ℝ) : EReal) := by
  funext i
  have e : (total d i : EReal) = Ideal.div (∑ r : Fin 8, d (ix1 r)) (Ideal.ofBits .f32 0x41000000#32) := by
    pointwise [total]
  rw [e, Finset.sum_congr rfl fun r _ => hd r, word_8]
  exact total_rows p t

/-- The reference's result: the sum over the rows of one minus the correlation, over the number of rows. -/
theorem result (m : (ℓ : Loc nD τ sig) → Idealize.ShloMosaic.Buf (Elt Ideal) ℓ) (c : Dev nD)
    (hp : Real2 (m ((c.tc : Thread nD τ).loc main_arg0)) p) (ht : Real2 (m ((c.tc : Thread nD τ).loc main_arg1)) t) :
    Cert.ReferenceIdeal.Value.res_main_v69 m c = fun _ => ((score p t 8 : ℝ) : EReal) := by
  have e : Cert.ReferenceIdeal.Value.res_main_v69 m c
      = total (parts (centred (soft (m ((c.tc : Thread nD τ).loc main_arg0)))) (centred (soft (m ((c.tc : Thread nD τ).loc main_arg1))))) := rfl
  rw [e]
  exact total_of (parts_of (centred_of (soft_of hp)) (centred_of (soft_of ht)))

end Cert.ReferenceIdeal.Val

end
-- ==== Proof.lean ====
/- The proof of the certificate's claim (proofs.«01_k».proof.Defs), from the two values of `Proof/KernelValue.lean` and
   `Proof/RefValue.lean`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.KernelValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Soft

/-- The reference runs, keeps its arguments and leaves every semaphore, of which it has none, at zero. -/
theorem frame_R : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

section

open Cert.KernelIdeal Cert.KernelIdeal.Gen

/-- What the operation after the launch leaves in the result: the launch's one number, as an array of no axes. -/
theorem tail_eq (m : (ℓ : Loc nD τ sig) → Idealize.ShloMosaic.Buf (Elt Ideal) ℓ) (c : Dev nD) {x : EReal}
    (h : (dats m 0 c).arrAt 2 (cfgs 0).N = fun _ => x) :
    Pipeline.afterTail₀ cfgs (dats m) 0 (V0 m) [hostOps1] c main_v3 = fun _ => x := by
  have e : Pipeline.withArrays (cfgs 0).spec c (V0 m c) (fun w => (dats m 0 c).arrAt w (cfgs 0).N) (Proc.tc.devRef main_v2)
      = (dats m 0 c).arrAt 2 (cfgs 0).N :=
    Pipeline.withArrays_arr (cfgs 0).spec (by decide) c (V0 m c) _ 2
  unfold Pipeline.afterTail₀
  show StableHlo.after hostOps1 _ _ = _
  after_results
  rw [e, h]
  rfl

end

/-- From arguments that are real and agree, the kernel and the reference end with the same result. -/
theorem same : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  choose p hp using fun c => (Cert.Pre_finite.reals (hpre c)).1
  choose t ht using fun c => (Cert.Pre_finite.reals (hpre c)).2
  refine ⟨fun c _ => ((score (p c) (t c) 8 : ℝ) : EReal), ?_, ?_⟩
  · refine θ_run_mono (θ_run_and (Cert.KernelIdeal.Gen.unchanged m g) (Cert.KernelIdeal.Gen.run_main m g)) fun r h c =>
      ⟨((h.2 c).2 _ (by decide)).trans (tail_eq m c (Cert.KernelIdeal.Val.final m c (hp c) (ht c))), h.1 c⟩
  · refine θ_run_mono (Cert.ReferenceIdeal.Value.run m' g') fun r h c => ⟨(h c).1.trans ?_, (h c).2⟩
    refine Cert.ReferenceIdeal.Val.result m' c ?_ ?_
    · rw [(hagree c).1]; exact hp c
    · rw [(hagree c).2]; exact ht c

/-- Everything claimed. -/
theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    frame_R, fun m g _ => frame_R m g trivial,
    IdealRules.named_const.statement Cert.KernelIdeal.κ "half_over_temperature" .f32 0x40A00000#32 ((67108864 / 13421773 : ℝ) : EReal) rfl,
    same⟩

end Cert.Proof

end
